-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x41x128 : Shape := ⟨3, ![4096, 41, 128]⟩
abbrev S128x1 : Shape := ⟨2, ![128, 1]⟩
abbrev S1 : Shape := ⟨1, ![1]⟩
abbrev S_ : Shape := ⟨0, ![]⟩

class Facts : Prop where
  bcast_S_S4096x41x128 : S_.BroadcastsInDim S4096x41x128 (![] : Fin 0 → Fin S4096x41x128.rank)
  reducesTo_S4096x41x128_S_d0_1_2 : S4096x41x128.ReducesTo [0, 1, 2] S_
  h_S_ : 0 < S_.numel
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S4096x41x128 .f32) (main_arg1 : FVec F S128x1 .f32) (main_arg2 : FVec F S1 .f32) : IVec S_ 1 :=
  let main_v0 : FVec F S4096x41x128 .f32 := Host.absf main_arg0
  let main_cst : FVec F S_ .f32 := constant S_ .f32 0x7F800000#32
  let main_v1 : FVec F S4096x41x128 .f32 := broadcastInDim S4096x41x128 ![] bcast_S_S4096x41x128 main_cst
  let main_v2 : IVec S4096x41x128 1 := cmpf .olt main_v0 main_v1
  let main_c : IVec S_ 1 := constantI S_ 1 1#1
  let main_v3 : IVec S_ 1 := (fun x v => Host.reduce IntOp.andi x v reducesTo_S4096x41x128_S_d0_1_2 h_S_) main_v2 main_c
  let main_v4 : FVec F S128x1 .f32 := Host.absf main_arg1
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  main_v8
-- ==== Kernel.lean ====
abbrev S4096x41x128 : Shape := ⟨3, ![4096, 41, 128]⟩
abbrev S128x1 : Shape := ⟨2, ![128, 1]⟩
abbrev S1 : Shape := ⟨1, ![1]⟩
abbrev S41x4096x128 : Shape := ⟨3, ![41, 4096, 128]⟩
abbrev S4096x128 : Shape := ⟨2, ![4096, 128]⟩
abbrev S_ : Shape := ⟨0, ![]⟩
abbrev S128x128 : Shape := ⟨2, ![128, 128]⟩
abbrev S1x128x128 : Shape := ⟨3, ![1, 128, 128]⟩

abbrev nBuf : Table → Nat
  | .hbm => 5
  | _ => 0

abbrev bufTy : (tb : Table) → Fin (nBuf tb) → BufTy
  | .hbm, ⟨0, _⟩ => ⟨S4096x41x128, .f32⟩
  | .hbm, ⟨1, _⟩ => ⟨S128x1, .f32⟩
  | .hbm, ⟨2, _⟩ => ⟨S1, .f32⟩
  | .hbm, ⟨3, _⟩ => ⟨S41x4096x128, .f32⟩
  | .hbm, ⟨4, _⟩ => ⟨S4096x128, .f32⟩
  | _, _ => ⟨S4096x41x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v0_scv : Ref sig .scVector := ⟨.hbm, 3, rfl⟩
abbrev main_v1_scv : Ref sig .scVector := ⟨.hbm, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0_r0 : BitVec 32 := 0#32
  ![v2.toNat, 0]
def k0_off2 (i : grid0.Coords) : Fin 3 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_1_r0 : BitVec 32 := 0#32
  ![0, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x41x128 : Shape := ⟨3, ![4096, 41, 128]⟩
abbrev S128x1 : Shape := ⟨2, ![128, 1]⟩
abbrev S1 : Shape := ⟨1, ![1]⟩
abbrev S4096x41x1 : Shape := ⟨3, ![4096, 41, 1]⟩
abbrev S1x1x1 : Shape := ⟨3, ![1, 1, 1]⟩
abbrev S_ : Shape := ⟨0, ![]⟩
abbrev S4096x41 : Shape := ⟨2, ![4096, 41]⟩
abbrev S4096x1 : Shape := ⟨2, ![4096, 1]⟩
abbrev S4096x1x1 : Shape := ⟨3, ![4096, 1, 1]⟩
abbrev S4096x1x128 : Shape := ⟨3, ![4096, 1, 128]⟩
abbrev S4096x1x128x1 : Shape := ⟨4, ![4096, 1, 128, 1]⟩
abbrev S1x1x1x1 : Shape := ⟨4, ![1, 1, 1, 1]⟩
abbrev S4096x128 : Shape := ⟨2, ![4096, 128]⟩

abbrev nBuf : Space → Nat
  | .hbm => 49
  | .vmem => 0
  | .smem => 0
  | _ => 0

abbrev bufTy : (tb : Table) → Fin (tcTables nBuf tb) → BufTy
  | .hbm, ⟨0, _⟩ => ⟨S4096x41x128, .f32⟩
  | .hbm, ⟨1, _⟩ => ⟨S128x1, .f32⟩
  | .hbm, ⟨2, _⟩ => ⟨S1, .f32⟩
  | .hbm, ⟨3, _⟩ => ⟨S4096x41x1, .f32⟩
  | .hbm, ⟨4, _⟩ => ⟨S1x1x1, .f32⟩
  | .hbm, ⟨5, _⟩ => ⟨S4096x41x1, .f32⟩
  | .hbm, ⟨6, _⟩ => ⟨S4096x41x1, .f32⟩
  | .hbm, ⟨7, _⟩ => ⟨S_, .f32⟩
  | .hbm, ⟨8, _⟩ => ⟨S4096x41, .f32⟩
  | .hbm, ⟨9, _⟩ => ⟨S_, .f32⟩
  | .hbm, ⟨10, _⟩ => ⟨S4096x41, .f32⟩
  | .hbm, ⟨11, _⟩ => ⟨S4096x41, .f32⟩
  | .hbm, ⟨12, _⟩ => ⟨S4096x41x1, .f32⟩
  | .hbm, ⟨13, _⟩ => ⟨S4096x41x1, .f32⟩
  | .hbm, ⟨14, _⟩ => ⟨S4096x41x1, .f32⟩
  | .hbm, ⟨15, _⟩ => ⟨S_, .f32⟩
  | .hbm, ⟨16, _⟩ => ⟨S4096x41, .f32⟩
  | .hbm, ⟨17, _⟩ => ⟨S4096x41x1, .f32⟩
  | .hbm, ⟨18, _⟩ => ⟨S4096x41x1, .f32⟩
  | .hbm, ⟨19, _⟩ => ⟨S4096x41x1, .i32⟩
  | .hbm, ⟨20, _⟩ => ⟨S_, .f32⟩
  | .hbm, ⟨21, _⟩ => ⟨S_, .i32⟩
  | .hbm, ⟨22, _⟩ => ⟨S4096x1, .f32⟩
  | .hbm, ⟨23, _⟩ => ⟨S4096x1, .i32⟩
  | .hbm, ⟨24, _⟩ => ⟨S4096x1x1, .i32⟩
  | .hbm, ⟨25, _⟩ => ⟨S4096x1x128, .i32⟩
  | .hbm, ⟨26, _⟩ => ⟨S_, .i32⟩
  | .hbm, ⟨27, _⟩ => ⟨S4096x1x128, .i32⟩
  | .hbm, ⟨28, _⟩ => ⟨S4096x1x128, .i1⟩
  | .hbm, ⟨29, _⟩ => ⟨S_, .i32⟩
  | .hbm, ⟨30, _⟩ => ⟨S4096x1x128, .i32⟩
  | .hbm, ⟨31, _⟩ => ⟨S4096x1x128, .i32⟩
  | .hbm, ⟨32, _⟩ => ⟨S4096x1x128, .i32⟩
  | .hbm, ⟨33, _⟩ => ⟨S4096x1x128x1, .i32⟩
  | .hbm, ⟨34, _⟩ => ⟨S1, .i32⟩
  | .hbm, ⟨35, _⟩ => ⟨S_, .i32⟩
  | .hbm, ⟨36, _⟩ => ⟨S4096x1x128x1, .i32⟩
  | .hbm, ⟨37, _⟩ => ⟨S4096x1x128x1, .i1⟩
  | .hbm, ⟨38, _⟩ => ⟨S1x1x1x1, .i32⟩
  | .hbm, ⟨39, _⟩ => ⟨S4096x1x128x1, .i32⟩
  | .hbm, ⟨40, _⟩ => ⟨S4096x1x128x1, .i1⟩
  | .hbm, ⟨41, _⟩ => ⟨S4096x1x128x1, .i1⟩
  | .hbm, ⟨42, _⟩ => ⟨S_, .i1⟩
  | .hbm, ⟨43, _⟩ => ⟨S4096x1x128, .i1⟩
  | .hbm, ⟨44, _⟩ => ⟨S4096x1x128, .f32⟩
  | .hbm, ⟨45, _⟩ => ⟨S_, .f32⟩
  | .hbm, ⟨46, _⟩ => ⟨S4096x1x128, .f32⟩
  | .hbm, ⟨47, _⟩ => ⟨S4096x1x128, .f32⟩
  | .hbm, ⟨48, _⟩ => ⟨S4096x128, .f32⟩
  | _, _ => ⟨S4096x41x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v16 : Ref sig .tc := ⟨.hbm, 47, rfl⟩
abbrev main_v17 : Ref sig .tc := ⟨.hbm, 48, rfl⟩

abbrev nD : Nat := 1
abbrev τ : Topo := Topo.v7x

variable {F : FTy → Type} [FloatOps F]
-- ==== Proof.RunIdeal.lean ====
/-
  The kernel's run. Thirty-two vector subcores, sixteen on each of two SparseCores, each copy 128 rows of region 0 of the
  transposed feature array into the same 128 rows of the result. Subcore `i` of SparseCore `c` is worker `2 * i + c`; the
  workers' rows are the 32 equal parts of the 4096 rows, so no two of them touch the same element and together they write
  every row. The run ends with the result holding `x[r, 0, k]` at `(r, k)`, the arguments as they were and every
  semaphore counter at zero.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Gen.KernelIdeal
public import proofs.«01_k».proof.Proof.Gen.KernelIdeal.Skeleton

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held wp_hlo_within)

variable {F : FTy → Type}

/-! ## The launch -/

abbrev ΛP : Labels := Pipeline.Sig Λ₀ (Fin 0) fun p => (pcfgs (F := F) p).Adm
abbrev K : SparseCore.Cfg τ sig (ΛP (F := F)) 1 := sc (F := F)
theorem cores_eq : (K (F := F)).nCore 0 = 2 := rfl
theorem subs_eq : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the workers' rows -/

variable (m : (ℓ : Loc nD τ sig) → Buf (Elt F) ℓ) (ρ : Dev nD → PrngReg)

abbrev aLoc (d : Dev nD) : Loc nD τ sig := (SparseCore.T d).loc main_arg0
abbrev wLoc (d : Dev nD) : Loc nD τ sig := (SparseCore.T d).loc main_arg1
abbrev bLoc (d : Dev nD) : Loc nD τ sig := (SparseCore.T d).loc main_arg2
abbrev tLoc (d : Dev nD) : Loc nD τ sig := (SparseCore.T d).loc main_v0
abbrev oLoc (d : Dev nD) : Loc nD τ sig := (SparseCore.T d).loc main_v1

/-- The transposed features: region first, row second. -/
def Xt (d : Dev nD) : Buf (Elt F) (tLoc d) :=
  transpose (s := S4096x41x128) S41x4096x128 [1, 0, 2] (m (aLoc d)) transposes_S4096x41x128_S41x4096x128_1_0_2

/-- What the result ends at: region 0 of the transposed features. -/
def G (d : Dev nD) : Buf (Elt F) (oLoc d) := fun (j : S4096x128.Idx) => Xt m d (ix3 (0 : Fin 41) (j 0) (j 1))

/-- Worker `2 * i + c`: subcore `i` of SparseCore `c`. -/
abbrev wk (c : Fin 2) (i : Fin 16) : Fin 32 := ⟨2 * i.val + c.val, by omega⟩

theorem tdiv : 32 ∣ S41x4096x128.size 1 := ⟨128, rfl⟩
theorem odiv : 32 ∣ S4096x128.size 0 := ⟨128, rfl⟩
abbrev tPart (w : Fin 32) : Finset S41x4096x128.Idx := (Rect.part (s := S41x4096x128) (a₀ := 1) tdiv w).set
abbrev oPart (w : Fin 32) : Finset S4096x128.Idx := (Rect.part (s := S4096x128) (a₀ := 0) odiv w).set

/-- A pair of a core and a subcore is a worker. -/
def workers : Fin 2 × Fin 16 ≃ Fin 32 := (Equiv.prodComm _ _).trans finProdFinEquiv

theorem workers_apply (c : Fin 2) (i : Fin 16) : workers (c, i) = wk c i :=
  Fin.ext (Nat.add_comm _ _)

theorem tPts_parts (d : Dev nD) (f : Buf (Elt F) (tLoc d)) :
    (tLoc d ↦{fullShare} f : sProp 𝕄)
      = bigSep Finset.univ fun c : Fin 2 => bigSep Finset.univ fun i : Fin 16 => tLoc d ↦[tPart (wk c i)]{fullShare} f := by
  have h : (tLoc d ↦{fullShare} f : sProp 𝕄) = bigSep Finset.univ fun w : Fin 32 => tLoc d ↦[tPart w]{fullShare} f := by
    rw [← pointsTo_biUnion Finset.univ (ℓ := tLoc d) tPart fun i _ j _ hij => Rect.part_disjoint tdiv hij,
      show Finset.univ.biUnion tPart = Finset.univ from Rect.biUnion_part tdiv]
  rw [h, bigSep_univ_equiv workers, bigSep_univ_prod]
  simp only [workers_apply]

theorem oPts_parts (d : Dev nD) (f : Buf (Elt F) (oLoc d)) :
    (oLoc d ↦{fullShare} f : sProp 𝕄)
      = bigSep Finset.univ fun c : Fin 2 => bigSep Finset.univ fun i : Fin 16 => oLoc d ↦[oPart (wk c i)]{fullShare} f := by
  have h : (oLoc d ↦{fullShare} f : sProp 𝕄) = bigSep Finset.univ fun w : Fin 32 => oLoc d ↦[oPart w]{fullShare} f := by
    rw [← pointsTo_biUnion Finset.univ (ℓ := oLoc d) oPart fun i _ j _ hij => Rect.part_disjoint odiv hij,
      show Finset.univ.biUnion oPart = Finset.univ from Rect.biUnion_part odiv]
  rw [h, bigSep_univ_equiv workers, bigSep_univ_prod]
  simp only [workers_apply]

variable [FloatOps F]

/-! ## What is handed out and brought back -/

/-- One worker's rows: its part of the transposed features and its part of the result, at contents `f`. -/
abbrev rows (d : Dev nD) (w : Fin 32) (f : Buf (Elt F) (oLoc d)) : sProp 𝕄 :=
  iprop((tLoc d ↦[tPart w]{fullShare} Xt m d) ∗ oLoc d ↦[oPart w]{fullShare} f)

/-- One SparseCore's: its sixteen workers' rows. -/
abbrev coreRows (d : Dev nD) (c : Fin 2) (f : Buf (Elt F) (oLoc d)) : sProp 𝕄 :=
  bigSep Finset.univ fun i : Fin 16 => rows m d (wk c i) f

/-- Each SparseCore is handed its workers' rows, the result's at their launch contents, and brings them back, the
    result's at the copied features; each subcore likewise its own. -/
def P : (K (F := F)).Pay (nD := nD) (Val := Elt F) (Name := ℕ) (U := UU) where
  st := fun q d c => match q with | 0 => coreRows m d (Fin.cast cores_eq c) (m (oLoc d))
  dn := fun q d c => match q with | 0 => coreRows m d (Fin.cast cores_eq c) (G m d)
  go := fun q d c i => match q with | 0 => rows m d (wk (Fin.cast cores_eq c) (Fin.cast subs_eq i)) (m (oLoc d))
  td := fun q d c i => match q with | 0 => rows m d (wk (Fin.cast cores_eq c) (Fin.cast subs_eq i)) (G m d)
  x := fun _ _ => iprop(emp)

instance P_storable : (P (F := F) m).IsStorable where
  st q d c := match q with
    | 0 => (inferInstance : BI.Storable (upEmb : UEmb _ 𝕄) (coreRows m d (Fin.cast cores_eq c) (m (oLoc d))))
  dn q d c := match q with
    | 0 => (inferInstance : BI.Storable (upEmb : UEmb _ 𝕄) (coreRows m d (Fin.cast cores_eq c) (G m d)))
  go q d c i := match q with
    | 0 => (inferInstance : BI.Storable (upEmb : UEmb _ 𝕄) (rows m d (wk (Fin.cast cores_eq c) (Fin.cast subs_eq i)) (m (oLoc d))))
  td q d c i := match q with
    | 0 => (inferInstance : BI.Storable (upEmb : UEmb _ 𝕄) (rows m d (wk (Fin.cast cores_eq c) (Fin.cast subs_eq i)) (G m d)))

/-! ## One worker's copy -/

section Tile

variable (d : Dev nD) (L : grid0.Coords)

abbrev cV (L : grid0.Coords) : Fin τ.nSC := (L 0).castLE hcore0
abbrev jV (L : grid0.Coords) : Fin τ.nSub := (L 1).castLE hsub0
theorem wL_lt (L : grid0.Coords) : 2 * (L 1).val + (L 0).val < 32 := by
  have h0 : (L 0).val < 2 := (L 0).isLt
  have h1 : (L 1).val < 16 := (L 1).isLt
  omega
abbrev wL (L : grid0.Coords) : Fin 32 := ⟨2 * (L 1).val + (L 0).val, wL_lt L⟩

/-- The copy's source, 128 rows of region 0, and its destination, the same rows of the result. -/
abbrev srcRect (L : grid0.Coords) : Rect S41x4096x128 := Rect.unit (s := S41x4096x128) (k0_off2 L) S1x128x128.size (k0_off2_inb L)
abbrev dstRect (L : grid0.Coords) : Rect S4096x128 := Rect.unit (s := S4096x128) (k0_off1 L) S128x128.size (k0_off1_inb L)
abbrev srcK (L : grid0.Coords) : Memref sig .scVector .hbm S128x128 .f32 :=
  ((Memref.whole main_v0_scv).slice (srcRect L) (fun _ => rfl)).squeeze S128x128 squeezes_S1x128x128_S128x128
abbrev dstK (L : grid0.Coords) : Memref sig .scVector .hbm S128x128 .f32 := (Memref.whole main_v1_scv).slice (dstRect L) (fun _ => rfl)

omit [FloatOps F] in
/-- The source lies in the worker's part. -/
theorem src_sub : (srcK L).view.set ⊆ tPart (wL L) := by
  have e : (srcK L).view.set = (srcRect L).set := by
    show (((Memref.whole main_v0_scv : Memref sig .scVector .hbm S41x4096x128 .f32).view.slice (srcRect L)).reshape S128x128 squeezes_S1x128x128_S128x128.numel_eq).set = _
    rw [View.set_reshape]
    exact View.set_slice_whole _ _
  rw [e]
  intro i hi
  have hi' := (Rect.mem_set_unit (s := S41x4096x128)).mp hi
  refine (Rect.mem_set_unit (s := S41x4096x128)).mpr fun a => ?_
  have h := hi' a
  rw [k0_off2_eq] at h
  match a with
  | 0 =>
    have h0 : (i 0).val < 41 := (i 0).isLt
    exact ⟨by simp [Shape.partIx], by simpa [Shape.partIx, Shape.partSize] using h0⟩
  | 1 =>
    simp [Shape.partIx, Shape.partSize] at h ⊢
    omega
  | 2 =>
    have h2 : (i 2).val < 128 := (i 2).isLt
    exact ⟨by simp [Shape.partIx], by simpa [Shape.partIx, Shape.partSize] using h2⟩

omit [FloatOps F] in
/-- The destination is the worker's part. -/
theorem dst_eq : (dstK L).view.set = oPart (wL L) := by
  have e : (dstK L).view.set = (dstRect L).set := View.set_slice_whole _ _
  rw [e]
  ext i
  rw [Rect.mem_set_unit (s := S4096x128), Rect.mem_set_unit (s := S4096x128), k0_off1_eq]
  refine forall_congr' fun a => ?_
  match a with
  | 0 => simp [Shape.partIx, Shape.partSize]; omega
  | 1 => simp [Shape.partIx, Shape.partSize]

/-- An index of 128 rows as an index of one region's 128 rows. -/
abbrev lift1 (x : S128x128.Idx) : S1x128x128.Idx := ix3 (n0 := 1) (n1 := 128) (n2 := 128) 0 (x 0) (x 1)

omit [FloatOps F] in
/-- What the copy lands is what the result is to hold, at each of the worker's elements. -/
theorem landed (f : Buf (Elt F) (oLoc d)) :
    ∀ i ∈ (dstK L).view.set,
      (dstK L).view.writes (Elt F) f [⟨Rect.whole S128x128, (srcK L).view.read (Elt F) (Xt m d)⟩] i = G m d i := by
  intro i hi
  rw [← View.write_univ_eq_writes_whole, View.writes_nil]
  obtain ⟨x, -, rfl⟩ := Finset.mem_map.mp hi
  rw [View.write_emb_of_mem _ _ (Finset.mem_univ _), View.read_apply]
  show Xt m d ((srcK L).view.emb x) = Xt m d _
  congr 1
  have hx : (Shape.reshapeEquiv squeezes_S1x128x128_S128x128.numel_eq x : S1x128x128.Idx) = lift1 x :=
    Shape.reshapeEquiv_eq_of_rowMajor _ (by
      refine (Shape.rowMajor_val_three (d := ![1, 128, 128]) (lift1 x)).trans
        (Eq.trans ?_ (Shape.rowMajor_val_two (d := ![128, 128]) x).symm)
      show (0 * 128 + (x 0).val) * 128 + (x 1).val = (x 0).val * 128 + (x 1).val
      rw [Nat.zero_mul, Nat.zero_add])
  have e : (srcK L).view.emb x = (srcRect L).emb (lift1 x) := congrArg (srcRect L).emb hx
  have e' : (dstK L).view.emb x = (dstRect L).emb x := rfl
  rw [e, e']
  funext a
  apply Fin.ext
  match a with
  | 0 =>
    rw [Rect.emb_apply]
    show (k0_off2 L) 0 + 1 * 0 = 0
    rw [k0_off2_eq]; rfl
  | 1 =>
    rw [Rect.emb_apply]
    show (k0_off2 L) 1 + 1 * (x 0).val = (k0_off1 L) 0 + 1 * (x 0).val
    rw [k0_off2_eq, k0_off1_eq]; rfl
  | 2 =>
    rw [Rect.emb_apply]
    show (k0_off2 L) 2 + 1 * (x 1).val = (k0_off1 L) 1 + 1 * (x 1).val
    rw [k0_off2_eq, k0_off1_eq]; rfl

/-- The copy's semaphore. -/
abbrev cell (d : Dev nD) (c : Fin τ.nSC) (i : Fin τ.nSub) : GSem nD τ sig := (V d c i, .dma cc0_scoped0.sem)

omit [FloatOps F] in
theorem ownSems_cell :
    (ownSems0 (V d (cV L) (jV L)) : sProp 𝕄)
      = iprop(semVal (cell d (cV L) (jV L)) 0 ∗ bigSep ((ownCells (V d (cV L) (jV L))).erase (cell d (cV L) (jV L))) fun g => semVal g 0) := by
  unfold SparseCore.Cfg.ownSems0
  rw [SparseCore.bigSep_erase' ((mem_ownCells (g := cell d (cV L) (jV L))).mpr ⟨rfl, by
      show (SemLoc.dma cc0_scoped0.sem : SemLoc sig).isScoped .scVector = true; decide⟩)]

omit [FloatOps F] in
/-- What the copy pays its semaphore, and its wait takes: 128 rows of 128 words of 32 bits. -/
theorem credit_dst : (dstK L).view.dmaCredit = 524288 := by rfl

set_option maxHeartbeats 4000000 in
/-- Worker `L`'s task: start the copy, wait for it. -/
theorem tile_body (hF : (K (F := F)).Facts) (O : CellTallies nD τ sig (HIx 1)) (W : Waits sig (HIx 1)) (hO : ∀ g, O g none = 0) :
    iprop(levAts (K (F := F)).L (K (F := F)).lev ∗ emp ∗ rows m d (wL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_first_region_gather L (Memref.whole main_v0_scv) (Memref.isWhole_whole _) (Memref.whole main_v1_scv) (Memref.isWhole_whole _) cc0_scoped0)
          fun _ => iprop(rows m d (wL L) (G m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_first_region_gather_eq_skeleton]; unfold cc0_first_region_gather_skel
  rw [SparseCore.Cfg.scopedSems0_V (Val := Elt F) d (cV L) (jV L), ownSems_cell]
  iintro ⟨#Hlv, -, ⟨Ht, Ho⟩, Hbufs, ⟨Hsem, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hts := (pointsTo_split_subset (ℓ := tLoc d) (q := fullShare) (f := Xt m d) (src_sub L)).1 $$ Ht
  icases Hts with ⟨Hsrc, Hrest⟩
  ihave Hsrc' := (show (tLoc d ↦[(srcK L).view.set]{fullShare} Xt m d : sProp 𝕄)
      ⊢ (srcK L).view.loc (V d (cV L) (jV L)) ↦[(srcK L).view.set]{fullShare} Xt m d from .rfl) $$ Hsrc
  ihave Ho' := (show (oLoc d ↦[oPart (wL L)]{fullShare} m (oLoc d) : sProp 𝕄)
      ⊢ (dstK L).view.loc (V d (cV L) (jV L)) ↦[(dstK L).view.set]{fullShare} m (oLoc d) from
    Entails.of_eq (by rw [dst_eq])) $$ Ho
  sl_exec
  iapply (Transfers.wp_waitLocalO countersEmb 𝒱₀ (V d (cV L) (jV L)) none (default : HIx 1) (credit_dst L)) $$ [Hsem HO]
  · isplitl [Hsem]; · iexact Hsem
    isplitl [HO]; · iexact HO
    iapply (Transfers.MayWaits.elim (SemLoc.dma cc0_scoped0.sem)) $$ Hmw
  iintro ⟨⟨Ho', Hsrc'⟩, Hsem, HO⟩
  sl_exec
  sl_step
  isplitl [Hsrc' Hrest Ho']
  · isplitl [Hsrc' Hrest]
    · iapply (pointsTo_split_subset (ℓ := tLoc d) (q := fullShare) (f := Xt m d) (src_sub L)).2
      isplitl [Hsrc']; · iexact Hsrc'
      iexact Hrest
    · iapply (show ((dstK L).view.loc (V d (cV L) (jV L)) ↦[(dstK L).view.set]{fullShare}
            (dstK L).view.writes (Elt F) (m (oLoc d)) [⟨Rect.whole S128x128, (srcK L).view.read (Elt F) (Xt m d)⟩] : sProp 𝕄)
          ⊢ (oLoc d ↦[oPart (wL L)]{fullShare} G m d : sProp 𝕄) from
        Entails.of_eq ((pointsTo_congr (landed m d L (m (oLoc d)))).trans (by rw [dst_eq])))
      iexact Ho'
  isplitl [Hbufs]; · iexact Hbufs
  isplitl [Hsem Hsems]
  · isplitl [Hsem]; · iexact Hsem
    iexact Hsems
  iexists _; isplitr
  swap; · iexact HO
  ipureintro; intro p hp
  rcases Finset.mem_insert.mp hp with hp | hp; · exact .inr (hp ▸ rfl)
  exact .inl hp

/-- The grid point of a SparseCore and a subcore. -/
def point (c : Fin (grid0.bound 0)) (i : Fin (grid0.bound 1)) : grid0.Coords :=
  fun | 0 => c | 1 => i | ⟨_ + 2, h⟩ => absurd h (Nat.not_lt.2 (Nat.le_add_left _ _))

theorem defs₀_subcore (c : Fin τ.nSC) (i : Fin τ.nSub) :
    defs₀ (F := F) (.scVector c i) 0 ()
      = SparseCore.onTile hcore0 hsub0 (fun c i => cc0_first_region_gather (point c i)
          (Memref.whole main_v0_scv) (Memref.isWhole_whole _) (Memref.whole main_v1_scv) (Memref.isWhole_whole _) cc0_scoped0) ⟨⟩ c i := rfl

omit [FloatOps F] in
/-- A task waits on nothing the call itself hands over. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_subcore]; simp only [SparseCore.onTile, hci, and_self, ↓reduceDIte]
  exact (tile_body m d (point ⟨_, hci.1⟩ ⟨_, hci.2⟩) hF O W hO).trans (wp_mono frame _ _ fun _ => post_weaken)

end Tile

/-! ## A SparseCore's rows are its subcores' -/

omit [FloatOps F] in
theorem bigSep_subs (Φ : Fin 16 → sProp 𝕄) :
    (bigSep Finset.univ fun i : Fin ((K (F := F)).nSub 0) => Φ (Fin.cast subs_eq i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast cores_eq c)) = bigSep Finset.univ Φ :=
  bigSep_congr fun _ _ => congrArg Φ (Fin.ext rfl)

theorem vecSplit : (K (F := F)).VecSplit' (P m) 0 := by
  intro d c
  show coreRows m d (Fin.cast cores_eq c) (m (oLoc d)) ⊢ |={Set.univ}=> iprop(
      (bigSep Finset.univ fun i : Fin ((K (F := F)).nSub 0) => rows m d (wk (Fin.cast cores_eq c) (Fin.cast subs_eq i)) (m (oLoc d)))
      ∗ ((bigSep Finset.univ fun i : Fin ((K (F := F)).nSub 0) => rows m d (wk (Fin.cast cores_eq c) (Fin.cast subs_eq i)) (G m d))
          -∗ coreRows m d (Fin.cast cores_eq c) (G m d)))
  rw [bigSep_subs (F := F) (fun i => rows m d (wk (Fin.cast cores_eq c) i) (m (oLoc d))),
    bigSep_subs (F := F) (fun i => rows m d (wk (Fin.cast cores_eq c) i) (G m d))]
  iintro H; imodintro
  isplitl [H]; · iexact H
  iintro H; iexact H

/-! ## The call's operands are its SparseCores' rows -/

theorem rows_all (d : Dev nD) (f : Buf (Elt F) (oLoc d)) :
    (bigSep Finset.univ fun c : Fin 2 => coreRows m d c f)
      = (iprop((tLoc d ↦{fullShare} Xt m d) ∗ oLoc d ↦{fullShare} f) : sProp 𝕄) := by
  rw [tPts_parts, oPts_parts, ← bigSep_sep']
  refine bigSep_congr fun c _ => ?_
  rw [← bigSep_sep']

theorem st_all (d : Dev nD) : (bigSep Finset.univ fun c : Fin ((K (F := F)).nCore 0) => (P m).st 0 d c)
    = iprop((tLoc d ↦{fullShare} Xt m d) ∗ oLoc d ↦{fullShare} m (oLoc d)) :=
  (bigSep_cores (F := F) fun c => coreRows m d c (m (oLoc d))).trans (rows_all m d _)
theorem dn_all (d : Dev nD) : (bigSep Finset.univ fun c : Fin ((K (F := F)).nCore 0) => (P m).dn 0 d c)
    = iprop((tLoc d ↦{fullShare} Xt m d) ∗ oLoc d ↦{fullShare} G m d) :=
  (bigSep_cores (F := F) fun c => coreRows m d c (G m d)).trans (rows_all m d _)

/-! ## The ghost state at the launch -/

def u₀ : UU := (initOf (K (F := F)).hsCells (K (F := F)).hsToks, 1)

omit [FloatOps F] in
theorem nothing_each {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_each]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_each]
  iempintro

/-! ## The host's part: the transposition, then the call -/

abbrev a' : DevRef τ sig := Proc.devRef .tc (main_arg0 : Ref sig .tc)
abbrev w' : DevRef τ sig := Proc.devRef .tc (main_arg1 : Ref sig .tc)
abbrev b' : DevRef τ sig := Proc.devRef .tc (main_arg2 : Ref sig .tc)
abbrev t' : DevRef τ sig := Proc.devRef .tc (main_v0 : Ref sig .tc)
abbrev o' : DevRef τ sig := Proc.devRef .tc (main_v1 : Ref sig .tc)

abbrev opT : HloOp τ sig (Elt F) :=
  StableHlo.unary main_arg0 main_v0 ((transpose S41x4096x128 [1, 0, 2] · transposes_S4096x41x128_S41x4096x128_1_0_2) :
    (⟨S4096x41x128, .f32⟩ : BufTy).Contents (Elt F) → (⟨S41x4096x128, .f32⟩ : BufTy).Contents (Elt F))

/-- The five arrays of the host program. -/
abbrev arrays : Finset (DevRef τ sig) := {a', w', b', t', o'}

/-- Their contents at the launch. -/
def V0 (d : Dev nD) : Valuation τ sig (Elt F) := fun b => m (d, b)

omit [FloatOps F] in
theorem held_arrays (d : Dev nD) (W : Valuation τ sig (Elt F)) :
    (held (T d) arrays W : sProp 𝕄)
      = iprop((aLoc d ↦{fullShare} W a') ∗ (wLoc d ↦{fullShare} W w') ∗ (bLoc d ↦{fullShare} W b')
          ∗ (tLoc d ↦{fullShare} W t') ∗ oLoc d ↦{fullShare} W o') := by
  unfold held arrays
  rw [SparseCore.bigSep_insert' (by decide), SparseCore.bigSep_insert' (by decide), SparseCore.bigSep_insert' (by decide),
    SparseCore.bigSep_insert' (by decide), bigSep_singleton]

omit [FloatOps F] in
theorem unscoped_arrays (d : Dev nD) :
    (unscopedBufs d (fun b => m ((SparseCore.T d).loc b)) : sProp 𝕄) = held (T d) arrays (V0 m d) := by
  rw [held_arrays]
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]
  rfl

theorem held_transposed (d : Dev nD) :
    (held (T d) arrays ((opT (F := F)).result (V0 m d)) : sProp 𝕄)
      = iprop((aLoc d ↦{fullShare} m (aLoc d)) ∗ (wLoc d ↦{fullShare} m (wLoc d)) ∗ (bLoc d ↦{fullShare} m (bLoc d))
          ∗ (tLoc d ↦{fullShare} Xt m d) ∗ oLoc d ↦{fullShare} m (oLoc d)) := by
  rw [held_arrays,
    (opT (F := F)).result_of_not_mem (V0 m d) (show a' ∉ ({t'} : Finset (DevRef τ sig)) by decide),
    (opT (F := F)).result_of_not_mem (V0 m d) (show w' ∉ ({t'} : Finset (DevRef τ sig)) by decide),
    (opT (F := F)).result_of_not_mem (V0 m d) (show b' ∉ ({t'} : Finset (DevRef τ sig)) by decide),
    (opT (F := F)).result_of_not_mem (V0 m d) (show o' ∉ ({t'} : Finset (DevRef τ sig)) by decide),
    show (opT (F := F)).result (V0 m d) t' = Xt m d from StableHlo.unary_result _ _ _ _ _ _]
  rfl

theorem opT_bufs : (opT (F := F)).bufs ⊆ arrays := show ({a', t'} : Finset (DevRef τ sig)) ⊆ arrays by decide

/-- What the host program leaves: the arguments as they were and the result at the copied features. -/
abbrev FIN (d : Dev nD) : sProp 𝕄 :=
  iprop((aLoc d ↦{fullShare} m (aLoc d)) ∗ (wLoc d ↦{fullShare} m (wLoc d)) ∗ (bLoc d ↦{fullShare} m (bLoc d)) ∗ oLoc d ↦{fullShare} G m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  iapply (wp_hlo_within 𝒱 (SparseCore.T d) none Set.univ (op := opT) (S := arrays) opT_bufs (V := V0 m d)) $$ [Hb Hheld]
  · isplitl [Hb] <;> iassumption
  iintro ⟨Hb, Hheld⟩
  rw [wp_ret]; imodintro
  ihave Hh := (Entails.of_eq (held_transposed (F := F) m d)) $$ Hheld
  icases Hh with ⟨Ha, Hw, Hbias, Ht, Ho⟩
  iapply ((K (F := F)).wp_run (D (F := F)) 𝒱 (EH := EH) (P := P m) κ d 0) $$ [Hst Ha Hw Hbias Ht Ho Hb Hts]
  isplitr; · iexact Hctx
  isplitl [Hst]; · iexact Hst
  isplitl [Ht Ho]
  · rw [st_all]
    isplitl [Ht]; · iexact Ht
    iexact Ho
  iintro ⟨Hst, Hdn⟩
  ihave Hdn' := (Entails.of_eq (dn_all m d)) $$ Hdn
  icases Hdn' with ⟨-, Ho⟩
  imodintro
  isplitl [Hst]; · iexact Hst
  isplitr [Hb Hts]
  · isplitl [Ha]; · iexact Ha
    isplitl [Hw]; · iexact Hw
    isplitl [Hbias]; · iexact Hbias
    iexact Ho
  isplitl [Hb] <;> iassumption

/-- What is read of device `d`'s final memory. -/
def fq (d : Dev nD) (s' : Phys nD τ sig (Elt F)) : Prop :=
  s'.mem.mem (aLoc d) = m (aLoc d) ∧ s'.mem.mem (wLoc d) = m (wLoc d) ∧ s'.mem.mem (bLoc d) = m (bLoc d) ∧ s'.mem.mem (oLoc d) = G m d

set_option maxRecDepth 16384 in
theorem hfin (d : Dev nD) (s' : Phys nD τ sig (Elt F)) : iprop(FIN m d ∗ SI s') ⊢ (⌜fq m d s'⌝ : sProp 𝕄) := by
  iintro ⟨⟨Ha, Hw, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h3, HSI, -⟩
  ihave H := (SI_pointsTo_agree (st := s') (ℓ := oLoc d) (I := Finset.univ) (q := fullShare) (f := G m d)) $$ [HSI Ho]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The run -/

/-- The program's run: the arguments unchanged, the result at the copied features, every semaphore counter at zero. -/
def QC : PUnit × MemSt nD τ sig (Elt F) → Prop := fun r =>
  (∀ c : Dev nD, r.2.mem (aLoc c) = m (aLoc c) ∧ r.2.mem (wLoc c) = m (wLoc c) ∧ r.2.mem (bLoc c) = m (bLoc c) ∧ r.2.mem (oLoc c) = G m c)
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.RunIdeal

end
-- ==== Proof.RefValue.lean ====
/-
  The reference's value. The scores of the 41 regions go through a softmax over an axis of length one, so every weight is
  the same number: a finite score gives `exp 0 / exp 0 = 1`, and an infinite bias makes all the scores one infinity. The
  first greatest weight of each row is then region 0, and the row gathered is `x[r, 0, ·]`.
-/
module

public import proofs.«01_k».proof.Defs
public import proofs.«01_k».proof.Proof.Gen.ReferenceIdeal
public import Idealize.ShloMosaic.PureOps.Reduce
public import Idealize.ShloMosaic.PureOps.Ideal.Laws
public import Idealize.ShloMosaic.Lib.ValueLayout

@[expose] public section

noncomputable section

namespace Cert.Proof.RefValue

open Cert.ReferenceIdeal Cert.ReferenceIdeal.Gen
open Idealize.ShloMosaic Idealize.ShloMosaic.ValueIdx

/-! ## The weights -/

/-- The scores `x · W + b`. -/
def scores (x : FVec Ideal S4096x41x128 .f32) (W : FVec Ideal S128x1 .f32) (b : FVec Ideal S1 .f32) : FVec Ideal S4096x41x1 .f32 :=
  addf (Host.dotGeneral dot_S4096x41x128_S128x1_S4096x41x1_2_0_01_1_n_n none x W)
    (broadcastInDim S4096x41x1 ![0, 1, 2] bcast_S1x1x1_S4096x41x1_0_1_2 (broadcastInDim S1x1x1 ![2] bcast_S1_S1x1x1_2 b))

/-- The exponential of a score less the greatest of its own axis. -/
def expo (s : FVec Ideal S4096x41x1 .f32) : FVec Ideal S4096x41x1 .f32 :=
  Host.exp (subf s (broadcastInDim S4096x41x1 ![0, 1] bcast_S4096x41_S4096x41x1_0_1
    (maximumf (broadcastInDim S4096x41 ![] bcast_S_S4096x41 (constant S_ .f32 0xFF800000#32))
      (Host.reduce FloatOps.maximumf s (constant S_ .f32 0xFF800000#32) reducesTo_S4096x41x1_S4096x41_d2 h_S_))))

/-- The softmax over the axis of length one. -/
def weights (s : FVec Ideal S4096x41x1 .f32) : FVec Ideal S4096x41x1 .f32 :=
  Host.divf (expo s) (broadcastInDim S4096x41x1 ![0, 1] bcast_S4096x41_S4096x41x1_0_1
    (Host.reduceAdd (expo s) (constant S_ .f32 0x00000000#32) reducesTo_S4096x41x1_S4096x41_d2 h_S_))

theorem red2 : S4096x41x1.Reduces [2] S4096x41 := by decide

/-- The index of a row and a region. -/
def rowOf (i : S4096x41x1.Idx) : S4096x41.Idx := red2.drop i

theorem spread_at {α : Type} (v : S4096x41.Idx → α) (i : S4096x41x1.Idx) :
    broadcastInDim S4096x41x1 ![0, 1] bcast_S4096x41_S4096x41x1_0_1 v i = v (rowOf i) := by
  refine congrArg v (funext fun a => ?_)
  fin_cases a <;> rfl

theorem only_lift (i : S4096x41x1.Idx) (k : Fin (S4096x41x1.size 2)) : red2.lift (rowOf i) k = i := by
  have hk : k = i 2 := Subsingleton.elim (α := Fin 1) _ _
  rw [hk]; exact red2.lift_drop i

theorem negInf : Ideal.ofBits .f32 0xFF800000#32 = ⊥ := by simp [Ideal.ofBits, Ideal.ieee]

theorem greatest_at (s : FVec Ideal S4096x41x1 .f32) (i : S4096x41x1.Idx) :
    Host.reduce FloatOps.maximumf s (constant S_ .f32 0xFF800000#32) reducesTo_S4096x41x1_S4096x41_d2 h_S_ (rowOf i) = s i := by
  rw [Host.reduce_eq_fold_single _ _ _ _ red2,
    show (s ∘ red2.lift (rowOf i)) = fun _ => s i from funext fun k => congrArg s (only_lift i k)]
  show max (s i) (Ideal.ofBits .f32 0xFF800000#32) = s i
  rw [negInf]; exact max_bot_right _

theorem total_at (s : FVec Ideal S4096x41x1 .f32) (i : S4096x41x1.Idx) :
    Host.reduceAdd s (constant S_ .f32 0x00000000#32) reducesTo_S4096x41x1_S4096x41_d2 h_S_ (rowOf i) = s i := by
  show Ideal.hostReduceAdd reducesTo_S4096x41x1_S4096x41_d2 s (Ideal.ofBits .f32 0x00000000#32) (rowOf i) = s i
  rw [Ideal.hostReduceAdd_single _ red2, Ideal.ofBits_zero_f32, zero_add,
    Finset.sum_congr rfl fun k _ => congrArg s (only_lift i k)]
  exact Fintype.sum_unique (ι := Fin 1) fun _ => s i

/-- The weight a score gets, alone on its axis. -/
def weight (t : EReal) : EReal := Ideal.div (Ideal.exp (t - t)) (Ideal.exp (t - t))

theorem expo_at (s : FVec Ideal S4096x41x1 .f32) (i : S4096x41x1.Idx) : expo s i = Ideal.exp (s i - s i) := by
  refine (congrArg (fun t => Ideal.exp (s i - t)) (spread_at _ i)).trans ?_
  show Ideal.exp (s i - max (Ideal.ofBits .f32 0xFF800000#32) (Host.reduce FloatOps.maximumf s _ _ _ (rowOf i))) = _
  rw [greatest_at, negInf, max_bot_left]

theorem weights_at (s : FVec Ideal S4096x41x1 .f32) (i : S4096x41x1.Idx) : weights s i = weight (s i) := by
  refine (congrArg (Ideal.div (expo s i)) (spread_at _ i)).trans ?_
  rw [total_at, expo_at]; rfl

/-- An extended real that is a real number. -/
def IsReal (t : EReal) : Prop := ∃ r : ℝ, t = r

theorem IsReal.mul {t u : EReal} : IsReal t → IsReal u → IsReal (t * u)
  | ⟨r, hr⟩, ⟨q, hq⟩ => ⟨r * q, by rw [hr, hq, EReal.coe_mul]⟩
theorem IsReal.add {t u : EReal} : IsReal t → IsReal u → IsReal (t + u)
  | ⟨r, hr⟩, ⟨q, hq⟩ => ⟨r + q, by rw [hr, hq, EReal.coe_add]⟩
theorem IsReal.zero : IsReal 0 := ⟨0, rfl⟩

/-- A finite score gets weight one. -/
theorem weight_real {t : EReal} (h : IsReal t) : weight t = 1 := by
  obtain ⟨r, rfl⟩ := h
  unfold weight
  rw [← EReal.coe_sub, sub_self]
  show Ideal.div (Real.exp 0 : EReal) (Real.exp 0 : EReal) = 1
  rw [Real.exp_zero]
  simp [Ideal.div]

theorem product_real {x : FVec Ideal S4096x41x128 .f32} {W : FVec Ideal S128x1 .f32} (hx : ∀ i, IsReal (x i)) (hW : ∀ i, IsReal (W i))
    (i : S4096x41x1.Idx) : IsReal (Host.dotGeneral dot_S4096x41x128_S128x1_S4096x41x1_2_0_01_1_n_n none x W i) := by
  simp only [Host.dotGeneral]
  rw [Ideal.dotGeneral_apply]
  exact Finset.sum_induction _ IsReal (fun _ _ => IsReal.add) IsReal.zero fun k _ => (hx _).mul (hW _)

/-- The one index of the bias. -/
def only : S1.Idx := fun a => ⟨0, by revert a; decide⟩

theorem bias_at (b : FVec Ideal S1 .f32) (i : S4096x41x1.Idx) :
    broadcastInDim S4096x41x1 ![0, 1, 2] bcast_S1x1x1_S4096x41x1_0_1_2 (broadcastInDim S1x1x1 ![2] bcast_S1_S1x1x1_2 b) i
      = b only :=
  congrArg b (funext fun a => by fin_cases a; exact Subsingleton.elim (α := Fin 1) _ _)

/-- All the weights are one number. -/
theorem weights_const {x : FVec Ideal S4096x41x128 .f32} {W : FVec Ideal S128x1 .f32} (hx : ∀ i, IsReal (x i)) (hW : ∀ i, IsReal (W i))
    (b : FVec Ideal S1 .f32) : ∃ c : EReal, ∀ i, weights (scores x W b) i = c := by
  have hs : ∀ i, scores x W b i
      = Host.dotGeneral dot_S4096x41x128_S128x1_S4096x41x1_2_0_01_1_n_n none x W i + b only :=
    fun i => congrArg (Host.dotGeneral dot_S4096x41x128_S128x1_S4096x41x1_2_0_01_1_n_n none x W i + ·) (bias_at b i)
  rcases (b only).rec (motive := fun t => t = ⊥ ∨ t = ⊤ ∨ IsReal t)
    (.inl rfl) (fun r => .inr (.inr ⟨r, rfl⟩)) (.inr (.inl rfl)) with h | h | h
  · refine ⟨weight ⊥, fun i => ?_⟩
    obtain ⟨r, hr⟩ := product_real hx hW i
    rw [weights_at, hs, h, EReal.add_bot]
  · refine ⟨weight ⊤, fun i => ?_⟩
    obtain ⟨r, hr⟩ := product_real hx hW i
    rw [weights_at, hs, h, hr, EReal.coe_add_top]
  · refine ⟨1, fun i => ?_⟩
    rw [weights_at, hs]
    exact weight_real ((product_real hx hW i).add h)

/-! ## The first greatest weight -/

/-- The index of each row's first greatest weight. -/
def best (p : FVec Ideal S4096x41x1 .f32) : IVec S4096x1 32 := fun j =>
  (Host.argReduce reducer_argmax_f32_i32 p (iotaInDim S4096x41x1 32 1) (constant S_ .f32 0xFF800000#32) (constantI S_ 32 0#32)
    reducesTo_S4096x41x1_S4096x1_d1 h_S_ j).2

/-- One step of the search at equal values keeps the smaller index. -/
theorem step_eq (c : EReal) (a b : BitVec 32) :
    reducer_argmax_f32_i32 (F := Ideal) (c, a) (c, b) = (c, if a.slt b then a else b) := by
  have h1 : ∀ v : Bool, (1#1 &&& BitVec.ofBool v = 1#1) = (v = true) := by decide
  simp [reducer_argmax_f32_i32, Ideal.cmpf_def, Ideal.cmp, IntOp.ori, IntOp.andi, IntOp.cmpi, Scalar.select, h1]

/-- One step of the search from the least value takes the greater value's pair. -/
theorem step_bot {c : EReal} (hc : c ≠ ⊥) (a b : BitVec 32) :
    reducer_argmax_f32_i32 (F := Ideal) (⊥, a) (c, b) = (c, b) := by
  simp [reducer_argmax_f32_i32, Ideal.cmpf_def, Ideal.cmp, IntOp.ori, IntOp.andi, IntOp.cmpi, Scalar.select, hc.symm]

/-- The search through pairs of one value, one of them at index zero and none at a negative index, ends at index zero. -/
theorem search_zero (c : EReal) : ∀ (l : List (EReal × BitVec 32)) (a : EReal × BitVec 32),
    (∀ p ∈ l, p.1 = c ∧ p.2.slt 0#32 = false) →
    ((a.1 = c ∧ a.2.slt 0#32 = false ∧ (a.2 = 0#32 ∨ (c, 0#32) ∈ l)) ∨ (a = (⊥, 0#32) ∧ (c, 0#32) ∈ l)) →
    (l.foldl (reducer_argmax_f32_i32 (F := Ideal)) a).2 = 0#32 := by
  intro l
  induction l with
  | nil =>
    rintro a - (⟨-, -, h | h⟩ | ⟨-, h⟩)
    · exact h
    · cases h
    · cases h
  | cons p l ih =>
    rintro ⟨v, n⟩ hl ha
    obtain ⟨hp, hp0⟩ := hl p List.mem_cons_self
    obtain ⟨p1, k⟩ := p
    obtain rfl : p1 = c := hp
    have hl' := fun q hq => hl q (List.mem_cons_of_mem _ hq)
    rw [List.foldl_cons]
    have hsplit : (p1, 0#32) ∈ (p1, k) :: l → k = 0#32 ∨ (p1, 0#32) ∈ l := by
      intro h; rcases List.mem_cons.1 h with h | h
      · exact .inl (congrArg Prod.snd h).symm
      · exact .inr h
    have hmin : ∀ n k : BitVec 32, n.slt 0#32 = false → k.slt 0#32 = false →
        (if n.slt k then n else k).slt 0#32 = false ∧ (n = 0#32 ∨ k = 0#32 → (if n.slt k then n else k) = 0#32) := by
      intro n k hn hk
      simp only [BitVec.slt, decide_eq_false_iff_not] at *
      refine ⟨by split_ifs <;> assumption, ?_⟩
      have h0 : (0#32).toInt = 0 := rfl
      rintro (rfl | rfl)
      · split_ifs with h
        · rfl
        · exact BitVec.eq_of_toInt_eq (by simp at h ⊢; omega)
      · split_ifs with h
        · exact absurd (of_decide_eq_true h) (by simpa using hn)
        · rfl
    rcases ha with ⟨hv, hn, h⟩ | ⟨hv, h⟩
    · obtain rfl : v = p1 := hv
      rw [step_eq]
      obtain ⟨m1, m2⟩ := hmin n k hn hp0
      refine ih _ hl' (.inl ⟨rfl, m1, ?_⟩)
      rcases h with h | h
      · exact .inl (m2 (.inl h))
      · rcases hsplit h with h | h
        · exact .inl (m2 (.inr h))
        · exact .inr h
    · obtain ⟨rfl, rfl⟩ := Prod.mk.inj hv
      by_cases hc : p1 = ⊥
      · subst hc
        rw [step_eq]
        obtain ⟨m1, m2⟩ := hmin 0#32 k rfl hp0
        exact ih _ hl' (.inl ⟨rfl, m1, .inl (m2 (.inl rfl))⟩)
      · rw [step_bot hc]
        exact ih _ hl' (.inl ⟨rfl, hp0, hsplit h⟩)

/-- Equal weights: the search answers region 0. -/
theorem best_zero {p : FVec Ideal S4096x41x1 .f32} {c : EReal} (hp : ∀ i, p i = c) : best p = fun _ => 0#32 := by
  funext j
  unfold best
  rw [Ideal.argReduce_eq_reduce2, Host.reduce2_eq_foldl_fiber]
  refine search_zero c _ _ ?_ (.inr ⟨?_, ?_⟩)
  · intro q hq
    obtain ⟨n, -, rfl⟩ := List.mem_map.1 hq
    refine ⟨hp _, ?_⟩
    generalize S4096x41x1.rowMajor.symm n = i
    have hlt : (i 1).val < 41 := (i 1).isLt
    show (BitVec.ofNat 32 (i 1).val).slt 0#32 = false
    generalize (i 1).val = k at hlt
    interval_cases k <;> rfl
  · exact Prod.ext negInf rfl
  · have hj : S4096x41x1.Idx := ix3 (j 0) (0 : Fin 41) (0 : Fin 1)
    refine List.mem_map.2 ⟨S4096x41x1.rowMajor (ix3 (n0 := 4096) (n1 := 41) (n2 := 1) (j 0) (0 : Fin 41) (0 : Fin 1)), List.mem_filter.2 ⟨List.mem_finRange _, ?_⟩, ?_⟩
    · rw [Equiv.symm_apply_apply]
      refine decide_eq_true (funext fun a => ?_)
      fin_cases a
      · exact Fin.ext rfl
      · exact Subsingleton.elim (α := Fin 1) _ _
    · rw [Equiv.symm_apply_apply, hp]; rfl

/-! ## The row gathered -/

/-- The region each entry of the result is read at: a negative one counts from the end. -/
def region (idx : IVec S4096x1x128 32) : IVec S4096x1x128x1 32 :=
  shapeCast S4096x1x128x1 (select (cmpi .slt idx (broadcastInDim S4096x1x128 ![] bcast_S_S4096x1x128 (constantI S_ 32 0#32)))
    (addi idx (broadcastInDim S4096x1x128 ![] bcast_S_S4096x1x128 (constantI S_ 32 41#32))) idx) shapeCasts_S4096x1x128_S4096x1x128x1

/-- Which regions lie in range. -/
def ranged (i : IVec S4096x1x128x1 32) : IVec S4096x1x128x1 1 :=
  andi (cmpi .sge i (broadcastInDim S4096x1x128x1 ![] bcast_S_S4096x1x128x1 (constantI S_ 32 0#32)))
    (cmpi .sle i (broadcastInDim S4096x1x128x1 ![0, 1, 2, 3] bcast_S1x1x1x1_S4096x1x128x1_0_1_2_3
      (broadcastInDim S1x1x1x1 ![3] bcast_S1_S1x1x1x1_3 (constantI S1 32 40#32))))

/-- The rows of `x` at the regions `idx` names; a region out of range gives the not-a-number pattern. -/
def taken (x : FVec Ideal S4096x41x128 .f32) (idx : IVec S4096x1x128 32) : FVec Ideal S4096x1x128 .f32 :=
  select (Host.reduce IntOp.andi (ranged (region idx)) (constantI S_ 1 1#1) reducesTo_S4096x1x128x1_S4096x1x128_d3 h_S_)
    (Host.gather gather_S4096x41x128_S4096x1x128x1_S4096x1x128_n_1_02_02_1_3_111 x (region idx))
    (broadcastInDim S4096x1x128 ![] bcast_S_S4096x1x128 (constant S_ .f32 0x7FC00000#32))

theorem region_zero : region (fun _ => 0#32) = fun _ => 0#32 := rfl

theorem ranged_zero : ranged (fun _ => 0#32) = fun _ => 1#1 := by
  funext i
  show IntOp.andi (IntOp.cmpi .sge 0#32 0#32) (IntOp.cmpi .sle 0#32 40#32) = 1#1
  decide

theorem select_at {α : Type} {s : Shape} {c : IVec s 1} (a b : s.Idx → α) {j : s.Idx} (h : c j = 1#1) : select c a b j = a j :=
  if_pos h

theorem red3 : S4096x1x128x1.Reduces [3] S4096x1x128 := by decide

theorem inside (j : S4096x1x128.Idx) :
    Host.reduce IntOp.andi (fun _ : S4096x1x128x1.Idx => 1#1) (constantI S_ 1 1#1) reducesTo_S4096x1x128x1_S4096x1x128_d3 h_S_ j = 1#1 := by
  rw [Host.reduce_eq_fold_single _ _ _ _ red3]
  show IntOp.andi 1#1 1#1 = 1#1
  rfl

theorem gathered (j : S4096x1x128.Idx) :
    gather_S4096x41x128_S4096x1x128x1_S4096x1x128_n_1_02_02_1_3_111.operandIdx j (fun _ => 0#32)
      = ix3 (n0 := 4096) (n1 := 41) (n2 := 128) (j 0) (0 : Fin 41) (j 2) := by
  funext a
  have mem0 : (0 : Fin 3) ∈ [(0 : Fin 3), 2] := by decide
  have mem2 : (2 : Fin 3) ∈ [(0 : Fin 3), 2] := by decide
  have mem1 : (1 : Fin 3) ∈ [(1 : Fin 3)] := by decide
  refine Fin.ext ?_
  show gather_S4096x41x128_S4096x1x128x1_S4096x1x128_n_1_02_02_1_3_111.start j (fun _ => 0#32) a
    + gather_S4096x41x128_S4096x1x128x1_S4096x1x128_n_1_02_02_1_3_111.batchCoord j a
    + gather_S4096x41x128_S4096x1x128x1_S4096x1x128_n_1_02_02_1_3_111.offCoord j a = _
  obtain rfl | rfl | rfl : a = (0 : Fin 3) ∨ a = (1 : Fin 3) ∨ a = (2 : Fin 3) := by revert a; decide
  · rw [GatherDims.start_batching _ _ _ _ mem0,
      GatherDims.offCoord_eq_zero _ _ _ fun h => ((GatherDims.mem_sKept _ _).mp h).2 mem0]
    simp only [Nat.zero_add, Nat.add_zero]
    unfold GatherDims.batchCoord
    exact (dif_pos mem0).trans rfl
  · rw [GatherDims.batchCoord_eq_zero _ _ _ (by decide),
      GatherDims.offCoord_eq_zero _ _ _ fun h => ((GatherDims.mem_sKept _ _).mp h).1 mem1]
    simp only [Nat.add_zero]
    unfold GatherDims.start
    exact (dif_pos mem1).trans rfl
  · rw [GatherDims.start_batching _ _ _ _ mem2,
      GatherDims.offCoord_eq_zero _ _ _ fun h => ((GatherDims.mem_sKept _ _).mp h).2 mem2]
    simp only [Nat.zero_add, Nat.add_zero]
    unfold GatherDims.batchCoord
    exact (dif_pos mem2).trans rfl

theorem taken_zero (x : FVec Ideal S4096x41x128 .f32) (j : S4096x1x128.Idx) :
    taken x (fun _ => 0#32) j = x (ix3 (n0 := 4096) (n1 := 41) (n2 := 128) (j 0) (0 : Fin 41) (j 2)) := by
  unfold taken
  rw [region_zero, ranged_zero]
  exact (select_at _ _ (inside j)).trans (congrArg x (gathered j))

/-- What the reference returns. -/
def value (x : FVec Ideal S4096x41x128 .f32) (W : FVec Ideal S128x1 .f32) (b : FVec Ideal S1 .f32) : FVec Ideal S4096x128 .f32 :=
  shapeCast S4096x128 (taken x (broadcastInDim S4096x1x128 ![0, 1, 2] bcast_S4096x1x1_S4096x1x128_0_1_2
    (broadcastInDim S4096x1x1 ![0, 1] bcast_S4096x1_S4096x1x1_0_1 (best (weights (scores x W b)))))) shapeCasts_S4096x1x128_S4096x128

theorem unfolded (j : S4096x128.Idx) :
    Shape.reshapeEquiv shapeCasts_S4096x1x128_S4096x128 j = ix3 (n0 := 4096) (n1 := 1) (n2 := 128) (j 0) (0 : Fin 1) (j 1) := by
  refine Shape.reshapeEquiv_eq_of_rowMajor _ ?_
  refine (Shape.rowMajor_val_three _).trans (Eq.trans ?_ (Shape.rowMajor_val_two j).symm)
  show ((j 0).val * 1 + 0) * 128 + (j 1).val = (j 0).val * 128 + (j 1).val
  rw [Nat.mul_one, Nat.add_zero]

/-- On finite features and finite projection weights the reference returns region 0 of every row. -/
theorem value_eq {x : FVec Ideal S4096x41x128 .f32} {W : FVec Ideal S128x1 .f32} (hx : ∀ i, IsReal (x i)) (hW : ∀ i, IsReal (W i))
    (b : FVec Ideal S1 .f32) :
    value x W b = fun j => x (ix3 (n0 := 4096) (n1 := 41) (n2 := 128) (j 0) (0 : Fin 41) (j 1)) := by
  obtain ⟨c, hc⟩ := weights_const hx hW b
  funext j
  unfold value
  rw [best_zero hc]
  show taken x (fun _ => 0#32) (Shape.reshapeEquiv shapeCasts_S4096x1x128_S4096x128 j) = _
  rw [taken_zero, unfolded]

end Cert.Proof.RefValue

end
-- ==== Proof.Finite.lean ====
/-
  What the precondition gives: every entry of the features and of the projection weights is a real number.
-/
module

public import proofs.«01_k».proof.Proof.RefValue
public import proofs.«01_k».proof.Proof.Gen.Pre_finite
public import Idealize.ShloMosaic.Lib.ReduceAll

@[expose] public section

noncomputable section

namespace Cert.Proof.Finite

open Idealize.ShloMosaic Cert.Proof.RefValue

theorem inf_eq : Ideal.ofBits .f32 0x7F800000#32 = ⊤ := by simp [Ideal.ofBits, Ideal.ieee]

/-- A magnitude below infinity is a real number's. -/
theorem real_of_abs {t : EReal} (h : Ideal.cmp .olt (max t (-t)) (Ideal.ofBits .f32 0x7F800000#32) = 1#1) : IsReal t := by
  rw [inf_eq] at h
  induction t using EReal.rec with
  | bot => simp [Ideal.cmp] at h
  | top => simp [Ideal.cmp] at h
  | coe r => exact ⟨r, rfl⟩

/-- An array whose every magnitude is found below infinity holds real numbers. -/
theorem real_of_reduce {s u t : Shape} {axes : List (Fin s.rank)} (x : FVec Ideal s .f32) (top : FVec Ideal s .f32)
    (htop : ∀ i, top i = Ideal.ofBits .f32 0x7F800000#32) (h : s.ReducesTo axes t) (hu : 0 < u.numel) (j : t.Idx)
    (hj : ∀ i, h.drop i = j)
    (e : Host.reduce IntOp.andi (cmpf .olt (Host.absf x) top) (constantI u 1 1#1) h hu j = 1#1) (i : s.Idx) : IsReal (x i) := by
  refine real_of_abs ?_
  rw [← htop i]
  exact Host.reduce_andi_eq_one _ _ h hu j e i (hj i)

theorem real_of_pre (x : FVec Ideal Cert.Pre_finite.S4096x41x128 .f32) (W : FVec Ideal Cert.Pre_finite.S128x1 .f32)
    (b : FVec Ideal Cert.Pre_finite.S1 .f32)
    (e : @Cert.Pre_finite.fn Cert.Pre_finite.Gen.facts Ideal _ x W b = fun _ => 1#1) :
    (∀ i, IsReal (x i)) ∧ ∀ i, IsReal (W i) := by
  have e0 := congrFun e fun a => a.elim0
  obtain ⟨e1, e2⟩ := IntOp.andi_eq_one.1 e0
  exact ⟨real_of_reduce x _ (fun _ => rfl) _ _ _ (fun _ => funext fun a => a.elim0) e1,
    real_of_reduce W _ (fun _ => rfl) _ _ _ (fun _ => funext fun a => a.elim0) e2⟩

end Cert.Proof.Finite

end
-- ==== Proof.lean ====
/-
  The claims: each program runs to its end without a fault, leaves its arguments unchanged and every semaphore counter at
  zero; and, over the extended reals, on finite features and finite projection weights, the SparseCore kernel and the
  attention reference return the same array. The kernel's run is Proof/RunIdeal.lean, the reference's value
  Proof/RefValue.lean, and what the precondition gives Proof/Finite.lean.
-/
module

public import proofs.«01_k».proof.Defs
public import proofs.«01_k».proof.Proof.Gen.Kernel
public import proofs.«01_k».proof.Proof.Gen.Kernel.Skeleton
public import proofs.«01_k».proof.Proof.Gen.ReferenceIdeal
public import proofs.«01_k».proof.Proof.Gen.Pre_finite
public import proofs.«01_k».proof.Proof.RunIdeal
public import proofs.«01_k».proof.Proof.RefValue
public import proofs.«01_k».proof.Proof.Finite
public import Idealize.ShloMosaic.Lib.Claim
public import Idealize.ShloMosaic.Lib.Quiescent

@[expose] public section

noncomputable section

namespace Cert.Proof

open Idealize.ShloMosaic Idealize.SL.Sem

/-- The kernel as printed runs, its arguments unchanged and its counters at zero. Its text is that of the ideal program, whose
    run is proved for every float instance. -/
theorem kernel_frame : quiescent_Kernel (hKernel := Cert.Kernel.Gen.facts) := fun m g _ =>
  θ_run_mono (RunIdeal.run_main (F := Bits) (m := m) g)
    fun _ hr => ⟨fun c => ⟨(hr.1 c).1, (hr.1 c).2.1, (hr.1 c).2.2.1⟩, hr.2⟩

/-- The kernel over the extended reals runs, its arguments unchanged and its counters at zero. -/
theorem ideal_frame : quiescent_KernelIdeal (hKernelIdeal := Cert.KernelIdeal.Gen.facts) := fun m g _ =>
  θ_run_mono (RunIdeal.run_main (F := Ideal) (m := m) g)
    fun _ hr => ⟨fun c => ⟨(hr.1 c).1, (hr.1 c).2.1, (hr.1 c).2.2.1⟩, hr.2⟩

/-- The reference over the extended reals runs, its arguments unchanged; it declares no semaphore. -/
theorem reference_frame : quiescent_ReferenceIdeal (hReferenceIdeal := Cert.ReferenceIdeal.Gen.facts) := by
  intro m g _
  hlo_run
  · exact fun _ => ⟨trivial, trivial, trivial⟩
  · exact sem_eq_zero_of_no_sems (sig := Cert.ReferenceIdeal.sig) (by decide) _

/-- On finite features and weights the reference's value is the array the kernel leaves. -/
theorem value_agrees (m : (ℓ : Loc Cert.KernelIdeal.nD Cert.KernelIdeal.τ Cert.KernelIdeal.sig) → Buf (Elt Ideal) ℓ)
    (hpre : Pre_KernelIdeal_finite (hPre_finite := Cert.Pre_finite.Gen.facts) m) (c : Dev Cert.KernelIdeal.nD) :
    RefValue.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = RunIdeal.G m c := by
  obtain ⟨hx, hW⟩ := Finite.real_of_pre _ _ _ (hpre c)
  refine (RefValue.value_eq hx hW _).trans (funext fun j => ?_)
  refine congrArg (m ((c.tc : Thread Cert.KernelIdeal.nD Cert.KernelIdeal.τ).loc Cert.KernelIdeal.main_arg0)) (funext fun a => ?_)
  fin_cases a <;> rfl

/-- Kernel and reference return the same array over the extended reals, on finite features and weights. -/
theorem same_value : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => RunIdeal.G m c,
    θ_run_mono (RunIdeal.run_main (F := Ideal) (m := m) g)
      fun _ hr c => ⟨(hr.1 c).2.2.2, (hr.1 c).1, (hr.1 c).2.1, (hr.1 c).2.2.1⟩, ?_⟩
  have hv := value_agrees m hpre
  hlo_run
  simp only [StableHlo.TRef.ofBuf_toBuf]
  simp -implicitDefEqProofs only [StableHlo.TRef.toBuf, StableHlo.TRef.ofBuf, cast_eq]
  have e := hv c
  simp only [RefValue.value, RefValue.taken, RefValue.ranged, RefValue.region, RefValue.best, RefValue.weights, RefValue.expo,
    RefValue.scores] at e
  exact e

theorem claim : Cert.Claim :=
  ⟨Cert.Kernel.Gen.facts, Cert.KernelIdeal.Gen.facts, Cert.ReferenceIdeal.Gen.facts, Cert.Pre_finite.Gen.facts,
    kernel_frame, ideal_frame, fun m g _ => ideal_frame m g trivial, reference_frame,
    fun m g _ => reference_frame m g trivial, trivial, same_value⟩

end Cert.Proof

end
